-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1x32768 : Shape := ⟨3, ![4, 1, 32768]⟩
abbrev S4x1x64x64 : Shape := ⟨4, ![4, 1, 64, 64]⟩
abbrev S4x32768x512 : Shape := ⟨3, ![4, 32768, 512]⟩
abbrev S4x32768 : Shape := ⟨2, ![4, 32768]⟩
abbrev S4x32768x64 : Shape := ⟨3, ![4, 32768, 64]⟩
abbrev S4x64x512 : Shape := ⟨3, ![4, 64, 512]⟩
abbrev S4x64x64 : Shape := ⟨3, ![4, 64, 64]⟩
abbrev S4x32x1x1024 : Shape := ⟨4, ![4, 32, 1, 1024]⟩
abbrev S1x64x512 : Shape := ⟨3, ![1, 64, 512]⟩
abbrev S1x64x64 : Shape := ⟨3, ![1, 64, 64]⟩
abbrev S1x1024x512 : Shape := ⟨3, ![1, 1024, 512]⟩
abbrev S1x1x1x1024 : Shape := ⟨4, ![1, 1, 1, 1024]⟩
abbrev S1x1024x64 : Shape := ⟨3, ![1, 1024, 64]⟩
abbrev S64x1 : Shape := ⟨2, ![64, 1]⟩
abbrev S64x512 : Shape := ⟨2, ![64, 512]⟩
abbrev S64x64 : Shape := ⟨2, ![64, 64]⟩
abbrev S1024x512 : Shape := ⟨2, ![1024, 512]⟩
abbrev S1x1024 : Shape := ⟨2, ![1, 1024]⟩
abbrev S1024x64 : Shape := ⟨2, ![1024, 64]⟩
abbrev S64x1024 : Shape := ⟨2, ![64, 1024]⟩
abbrev S64 : Shape := ⟨1, ![64]⟩
abbrev S1024x1 : Shape := ⟨2, ![1024, 1]⟩

abbrev nBuf : Space → Nat
  | .hbm => 9
  | .vmem => 15
  | .smem => 0
  | _ => 0

abbrev bufTy : (tb : Table) → Fin (tcTables nBuf tb) → BufTy
  | .hbm, ⟨0, _⟩ => ⟨S4x1x32768, .bf16⟩
  | .hbm, ⟨1, _⟩ => ⟨S4x1x64x64, .bf16⟩
  | .hbm, ⟨2, _⟩ => ⟨S4x32768x512, .fp8e4m3⟩
  | .hbm, ⟨3, _⟩ => ⟨S4x32768, .f32⟩
  | .hbm, ⟨4, _⟩ => ⟨S4x32768x64, .bf16⟩
  | .hbm, ⟨5, _⟩ => ⟨S4x64x512, .bf16⟩
  | .hbm, ⟨6, _⟩ => ⟨S4x64x64, .bf16⟩
  | .hbm, ⟨7, _⟩ => ⟨S4x32x1x1024, .f32⟩
  | .hbm, ⟨8, _⟩ => ⟨S4x64x512, .bf16⟩
  | .local _ .vmem, ⟨0, _⟩ => ⟨S1x64x512, .bf16⟩
  | .local _ .vmem, ⟨1, _⟩ => ⟨S1x64x512, .bf16⟩
  | .local _ .vmem, ⟨2, _⟩ => ⟨S1x64x64, .bf16⟩
  | .local _ .vmem, ⟨3, _⟩ => ⟨S1x64x64, .bf16⟩
  | .local _ .vmem, ⟨4, _⟩ => ⟨S1x1024x512, .fp8e4m3⟩
  | .local _ .vmem, ⟨5, _⟩ => ⟨S1x1024x512, .fp8e4m3⟩
  | .local _ .vmem, ⟨6, _⟩ => ⟨S1x1x1x1024, .f32⟩
  | .local _ .vmem, ⟨7, _⟩ => ⟨S1x1x1x1024, .f32⟩
  | .local _ .vmem, ⟨8, _⟩ => ⟨S1x1024x64, .bf16⟩
  | .local _ .vmem, ⟨9, _⟩ => ⟨S1x1024x64, .bf16⟩
  | .local _ .vmem, ⟨10, _⟩ => ⟨S1x64x512, .bf16⟩
  | .local _ .vmem, ⟨11, _⟩ => ⟨S1x64x512, .bf16⟩
  | .local _ .vmem, ⟨12, _⟩ => ⟨S64x1, .f32⟩
  | .local _ .vmem, ⟨13, _⟩ => ⟨S64x1, .f32⟩
  | .local _ .vmem, ⟨14, _⟩ => ⟨S64x512, .f32⟩
  | _, _ => ⟨S4x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v54 : BitVec 1 := Scalar.cmpi .eq arg1 c31_i32
  let v55 : BitVec 32 := Scalar.extui v54
  let c0_i32_33 : BitVec 32 := 0#32
  let v56 : BitVec 1 := Scalar.cmpi .ne v55 c0_i32_33
  v56

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S4x1x32768 : Shape := ⟨3, ![4, 1, 32768]⟩
abbrev S4x1x64x64 : Shape := ⟨4, ![4, 1, 64, 64]⟩
abbrev S4x32768x512 : Shape := ⟨3, ![4, 32768, 512]⟩
abbrev S4x32768 : Shape := ⟨2, ![4, 32768]⟩
abbrev S4x32768x64 : Shape := ⟨3, ![4, 32768, 64]⟩
abbrev S4x64x512 : Shape := ⟨3, ![4, 64, 512]⟩
abbrev S4x64x64 : Shape := ⟨3, ![4, 64, 64]⟩
abbrev S4x64x32768 : Shape := ⟨3, ![4, 64, 32768]⟩
abbrev S4x64 : Shape := ⟨2, ![4, 64]⟩
abbrev S4x64x1 : Shape := ⟨3, ![4, 64, 1]⟩
abbrev S4x32768x1 : Shape := ⟨3, ![4, 32768, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x1x32768, .bf16⟩
  | .hbm, ⟨1, _⟩ => ⟨S4x1x64x64, .bf16⟩
  | .hbm, ⟨2, _⟩ => ⟨S4x32768x512, .fp8e4m3⟩
  | .hbm, ⟨3, _⟩ => ⟨S4x32768, .f32⟩
  | .hbm, ⟨4, _⟩ => ⟨S4x32768x64, .bf16⟩
  | .hbm, ⟨5, _⟩ => ⟨S4x64x512, .bf16⟩
  | .hbm, ⟨6, _⟩ => ⟨S4x64x64, .bf16⟩
  | .hbm, ⟨7, _⟩ => ⟨S4x64x512, .bf16⟩
  | .local _ .vmem, ⟨0, _⟩ => ⟨S4x64x512, .bf16⟩
  | .local _ .vmem, ⟨1, _⟩ => ⟨S4x64x64, .bf16⟩
  | .local _ .vmem, ⟨2, _⟩ => ⟨S4x32768x512, .fp8e4m3⟩
  | .local _ .vmem, ⟨3, _⟩ => ⟨S4x32768, .f32⟩
  | .local _ .vmem, ⟨4, _⟩ => ⟨S4x32768x64, .bf16⟩
  | .local _ .vmem, ⟨5, _⟩ => ⟨S4x64x512, .bf16⟩
  | _, _ => ⟨S4x1x32768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S4x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x32768x512 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x32768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x32768x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x64x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Point.lean ====
/- One grid point of the kernel: the body reads the query block, the rotary query block, a block of 1024 cached tokens
   with its scales and rotary keys, and the three scratch arrays (the running row maximum, the running sum of
   exponentials, the running weighted sum), and leaves new contents in the scratch arrays; the last point of a batch
   entry also writes the output block. Here: the contents each of the three cases of the run leaves, as the kernel's own
   payload expressions of the blocks it loaded. Nothing is specific to a float instance. -/
module

public import proofs.«01_k».proof.Proof.Gen.KernelIdeal.Frame
public import Idealize.ShloMosaic.Lib.Pipeline.Value
public import Idealize.ShloMosaic.Lib.Tactic

@[expose] public section

set_option maxRecDepth 16384

noncomputable section

open Idealize.ShloMosaic Idealize.ShloMosaic.TcCoe Idealize.SL.Sem

namespace Cert.KernelIdeal.Point

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The new running row maximum, from the five input blocks and the old maximum. -/
def newMax (x0 : Vec F S1x64x512 .bf16) (x1 : Vec F S1x64x64 .bf16) (x2 : Vec F S1x1024x512 .fp8e4m3) (x3 : Vec F S1x1x1x1024 .f32)
    (x4 : Vec F S1x1024x64 .bf16) (xs0 : Vec F S64x1 .f32) : Vec F S64x1 .f32 :=
  k0_pay2 (k0_pay11 x0 x1 x2 x3 x4 xs0)

/-- The new running sum of exponentials, from the blocks, the old maximum and the old sum. -/
def newSum (x0 : Vec F S1x64x512 .bf16) (x1 : Vec F S1x64x64 .bf16) (x2 : Vec F S1x1024x512 .fp8e4m3) (x3 : Vec F S1x1x1x1024 .f32)
    (x4 : Vec F S1x1024x64 .bf16) (xs0 xs1 : Vec F S64x1 .f32) : Vec F S64x1 .f32 :=
  k0_pay1 (k0_pay12 x0 x1 x2 x3 x4 xs0) (k0_pay13 x0 x1 x2 x3 x4 xs0) xs1

/-- The new running weighted sum of the cached latents, from the blocks, the old maximum and the old weighted sum. -/
def newAcc (x0 : Vec F S1x64x512 .bf16) (x1 : Vec F S1x64x64 .bf16) (x2 : Vec F S1x1024x512 .fp8e4m3) (x3 : Vec F S1x1x1x1024 .f32)
    (x4 : Vec F S1x1024x64 .bf16) (xs0 : Vec F S64x1 .f32) (xs2 : Vec F S64x512 .f32) : Vec F S64x512 .f32 :=
  k0_pay3 (k0_pay8 x2) (k0_pay9 x3) (k0_pay12 x0 x1 x2 x3 x4 xs0) (k0_pay13 x0 x1 x2 x3 x4 xs0) xs2

variable (c : Dev nD) (i : grid0.Coords)
  (arg2 : Memref sig .tc .vmem S1x64x512 .bf16) (harg2 : arg2.IsWhole) (arg3 : Memref sig .tc .vmem S1x64x64 .bf16) (harg3 : arg3.IsWhole)
  (arg4 : Memref sig .tc .vmem S1x1024x512 .fp8e4m3) (harg4 : arg4.IsWhole) (arg5 : Memref sig .tc .vmem S1x1x1x1024 .f32) (harg5 : arg5.IsWhole)
  (arg6 : Memref sig .tc .vmem S1x1024x64 .bf16) (harg6 : arg6.IsWhole) (arg7 : Memref sig .tc .vmem S1x64x512 .bf16) (harg7 : arg7.IsWhole)
  (arg8 : Memref sig .tc .vmem S64x1 .f32) (harg8 : arg8.IsWhole) (arg9 : Memref sig .tc .vmem S64x1 .f32) (harg9 : arg9.IsWhole)
  (arg10 : Memref sig .tc .vmem S64x512 .f32) (harg10 : arg10.IsWhole)

section
variable (hc0 : cond0_0 i) (hc1 : ¬cond0_1 i)
  (x0 : Vec F S1x64x512 .bf16) (x1 : Vec F S1x64x64 .bf16) (x2 : Vec F S1x1024x512 .fp8e4m3) (x3 : Vec F S1x1x1x1024 .f32) (x4 : Vec F S1x1024x64 .bf16)

/-- The first point of a batch entry: what it leaves in the running maximum. -/
theorem sout_A_0 : sout0_A_0 c i arg2 harg2 arg3 harg3 arg4 harg4 arg5 harg5 arg6 harg6 arg7 harg7 arg8 harg8 arg9 harg9 arg10 harg10 hc0 hc1 x0 x1 x2 x3 x4 = newMax x0 x1 x2 x3 x4 k0_pay5 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S64x1) hz2]
  unfold newMax
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

/-- The first point of a batch entry: what it leaves in the running sum. -/
theorem sout_A_1 : sout0_A_1 c i arg2 harg2 arg3 harg3 arg4 harg4 arg5 harg5 arg6 harg6 arg7 harg7 arg8 harg8 arg9 harg9 arg10 harg10 hc0 hc1 x0 x1 x2 x3 x4 = newSum x0 x1 x2 x3 x4 k0_pay5 k0_pay6 := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S64x1) hz2]
  unfold newSum
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

/-- The first point of a batch entry: what it leaves in the running weighted sum. -/
theorem sout_A_2 : sout0_A_2 c i arg2 harg2 arg3 harg3 arg4 harg4 arg5 harg5 arg6 harg6 arg7 harg7 arg8 harg8 arg9 harg9 arg10 harg10 hc0 hc1 x0 x1 x2 x3 x4 = newAcc x0 x1 x2 x3 x4 k0_pay5 k0_pay7 := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S64x512) hz2]
  unfold newAcc
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

end

section
variable (hc0 : ¬cond0_0 i) (hc1 : ¬cond0_1 i)
  (x0 : Vec F S1x64x512 .bf16) (x1 : Vec F S1x64x64 .bf16) (x2 : Vec F S1x1024x512 .fp8e4m3) (x3 : Vec F S1x1x1x1024 .f32) (x4 : Vec F S1x1024x64 .bf16)
  (xs0 xs1 : Vec F S64x1 .f32) (xs2 : Vec F S64x512 .f32)

/-- A middle point: what it leaves in the running maximum. -/
theorem sout_B_0 : sout0_B_0 c i arg2 harg2 arg3 harg3 arg4 harg4 arg5 harg5 arg6 harg6 arg7 harg7 arg8 harg8 arg9 harg9 arg10 harg10 hc0 hc1 x0 x1 x2 x3 x4 xs0 xs1 xs2 = newMax x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S64x1) hz2]
  unfold newMax
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

/-- A middle point: what it leaves in the running sum. -/
theorem sout_B_1 : sout0_B_1 c i arg2 harg2 arg3 harg3 arg4 harg4 arg5 harg5 arg6 harg6 arg7 harg7 arg8 harg8 arg9 harg9 arg10 harg10 hc0 hc1 x0 x1 x2 x3 x4 xs0 xs1 xs2 = newSum x0 x1 x2 x3 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S64x1) hz2]
  unfold newSum
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

/-- A middle point: what it leaves in the running weighted sum. -/
theorem sout_B_2 : sout0_B_2 c i arg2 harg2 arg3 harg3 arg4 harg4 arg5 harg5 arg6 harg6 arg7 harg7 arg8 harg8 arg9 harg9 arg10 harg10 hc0 hc1 x0 x1 x2 x3 x4 xs0 xs1 xs2 = newAcc x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero (S := S64x512) hz2]
  unfold newAcc
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

end

section
variable (hc0 : ¬cond0_0 i) (hc1 : cond0_1 i)
  (x0 : Vec F S1x64x512 .bf16) (x1 : Vec F S1x64x64 .bf16) (x2 : Vec F S1x1024x512 .fp8e4m3) (x3 : Vec F S1x1x1x1024 .f32) (x4 : Vec F S1x1024x64 .bf16)
  (xs0 xs1 : Vec F S64x1 .f32) (xs2 : Vec F S64x512 .f32)

/-- The last point of a batch entry: what it leaves in the running maximum. -/
theorem sout_C_0 : sout0_C_0 c i arg2 harg2 arg3 harg3 arg4 harg4 arg5 harg5 arg6 harg6 arg7 harg7 arg8 harg8 arg9 harg9 arg10 harg10 hc0 hc1 x0 x1 x2 x3 x4 xs0 xs1 xs2 = newMax x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S64x1) hz2]
  unfold newMax
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

/-- The last point of a batch entry: what it leaves in the running sum. -/
theorem sout_C_1 : sout0_C_1 c i arg2 harg2 arg3 harg3 arg4 harg4 arg5 harg5 arg6 harg6 arg7 harg7 arg8 harg8 arg9 harg9 arg10 harg10 hc0 hc1 x0 x1 x2 x3 x4 xs0 xs1 xs2 = newSum x0 x1 x2 x3 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S64x1) hz2]
  unfold newSum
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

/-- The last point of a batch entry: what it leaves in the running weighted sum. -/
theorem sout_C_2 : sout0_C_2 c i arg2 harg2 arg3 harg3 arg4 harg4 arg5 harg5 arg6 harg6 arg7 harg7 arg8 harg8 arg9 harg9 arg10 harg10 hc0 hc1 x0 x1 x2 x3 x4 xs0 xs1 xs2 = newAcc x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S64x512) hz2]
  unfold newAcc
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

/-- The last point of a batch entry: the output block it writes, the new weighted sum over the new sum. -/
theorem out_C_5 : out0_C_5 c i arg2 harg2 arg3 harg3 arg4 harg4 arg5 harg5 arg6 harg6 arg7 harg7 arg8 harg8 arg9 harg9 arg10 harg10 hc0 hc1 x0 x1 x2 x3 x4 xs0 xs1 xs2
    = k0_pay4 (newAcc x0 x1 x2 x3 x4 xs0 xs2) (newSum x0 x1 x2 x3 x4 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero (S := S1x64x512) hz3]
  unfold newAcc newSum
  simp only [View.readAt_eq_ld, harg2.read_unread, harg3.read_unread, harg4.read_unread, harg5.read_unread, harg6.read_unread,
    harg8.read_unread, harg9.read_unread, harg10.read_unread, View.readCov_unit_zero (S := S64x1) _ hz2, View.readCov_unit_zero (S := S64x512) _ hz2,
    View.ld_unit_zero (S := S64x1) hz2, View.ld_unit_zero (S := S64x512) hz2, View.ld_unit_zero (S := S1x64x512) hz3,
    View.ld_unit_zero (S := S1x64x64) hz3, View.ld_unit_zero (S := S1x1024x512) hz3, View.ld_unit_zero (S := S1x1x1x1024) hz4,
    View.ld_unit_zero (S := S1x1024x64) hz3]

end

end Cert.KernelIdeal.Point

end
-- ==== Proof.Softmax.lean ====
/- Softmax over a growing list of scores, on the extended reals: the running maximum, the running sum of exponentials and
   the running weighted sum, and how each changes when a block of scores is added. The rescaling factor
   `exp (old maximum - new maximum)` is between zero and one, so it distributes over every sum, and
   `exp (s - m) * exp (m - m') = exp (s - m')` for `s ≤ m ≤ m'` holds at the infinities too. No score is assumed finite. -/
module

public import Idealize.ShloMosaic.PureOps.Ideal

@[expose] public section

noncomputable section

open Idealize.ShloMosaic

namespace Cert.Softmax

/-- An exponential is never negative. -/
theorem exp_nonneg (x : EReal) : 0 ≤ Ideal.exp x := by
  induction x with
  | bot => simp
  | top => simp
  | coe r => exact EReal.coe_nonneg.mpr (Real.exp_pos r).le

/-- A difference `m - m'` with `m ≤ m'` is below `⊤`. -/
theorem sub_ne_top {m m' : EReal} (h : m ≤ m') : m - m' ≠ ⊤ := by
  induction m' with
  | bot => rw [le_bot_iff.mp h]; simp
  | top => induction m <;> simp
  | coe b =>
    induction m with
    | bot => simp
    | top => exact absurd h (by simp)
    | coe a => rw [← EReal.coe_sub]; exact EReal.coe_ne_top _

/-- The exponential of anything below `⊤` is below `⊤`. -/
theorem exp_ne_top {x : EReal} (h : x ≠ ⊤) : Ideal.exp x ≠ ⊤ := by
  induction x with
  | bot => simp
  | top => exact absurd rfl h
  | coe r => exact EReal.coe_ne_top _

/-- Changing the reference point of an exponential: `exp (s - m) * exp (m - m') = exp (s - m')` for `s ≤ m ≤ m'`. -/
theorem exp_shift {s m m' : EReal} (h : s ≤ m) (h' : m ≤ m') : Ideal.exp (s - m) * Ideal.exp (m - m') = Ideal.exp (s - m') := by
  induction m' with
  | top =>
    induction s <;> induction m <;> simp_all
  | bot =>
    obtain rfl := le_bot_iff.mp h'
    obtain rfl := le_bot_iff.mp h
    simp
  | coe c =>
    induction m with
    | top => exact absurd h' (by simp)
    | bot => obtain rfl := le_bot_iff.mp h; simp
    | coe b =>
      induction s with
      | top => exact absurd h (by simp)
      | bot => simp
      | coe a =>
        rw [← EReal.coe_sub, ← EReal.coe_sub, ← EReal.coe_sub]
        show ((Real.exp _ : ℝ) : EReal) * ((Real.exp _ : ℝ) : EReal) = ((Real.exp _ : ℝ) : EReal)
        rw [← EReal.coe_mul, ← Real.exp_add]
        congr 2
        ring

/-- A finite nonnegative factor distributes over a finite sum. -/
theorem sum_mul {ι : Type*} (S : Finset ι) (f : ι → EReal) {c : EReal} (h0 : 0 ≤ c) (h1 : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 h1, ih]

/-- A weighted sum of exponentials changes its reference point by one factor. -/
theorem wsum_shift {ι : Type*} (S : Finset ι) (s k : ι → EReal) {m m' : EReal} (h : ∀ i ∈ S, s i ≤ m) (h' : m ≤ m') :
    (∑ i ∈ S, Ideal.exp (s i - m) * k i) * Ideal.exp (m - m') = ∑ i ∈ S, Ideal.exp (s i - m') * k i := by
  rw [sum_mul S _ (exp_nonneg _) (exp_ne_top (sub_ne_top h'))]
  refine Finset.sum_congr rfl fun i hi => ?_
  rw [mul_right_comm, exp_shift (h i hi) h']

/-- The largest of the first `n` scores (`⊥` when there is none). -/
def top (s : ℕ → EReal) (n : ℕ) : EReal := (Finset.range n).sup s

/-- The sum of the exponentials of the first `n` scores, each less their maximum. -/
def mass (s : ℕ → EReal) (n : ℕ) : EReal := ∑ i ∈ Finset.range n, Ideal.exp (s i - top s n)

/-- The same sum with weights. -/
def wsum (s k : ℕ → EReal) (n : ℕ) : EReal := ∑ i ∈ Finset.range n, Ideal.exp (s i - top s n) * k i

theorem top_zero (s : ℕ → EReal) : top s 0 = ⊥ := rfl
theorem mass_zero (s : ℕ → EReal) : mass s 0 = 0 := rfl
theorem wsum_zero (s k : ℕ → EReal) : wsum s k 0 = 0 := rfl

theorem le_top (s : ℕ → EReal) {n i : ℕ} (h : i ∈ Finset.range n) : s i ≤ top s n := Finset.le_sup h

/-- The maximum after `b` more scores. -/
theorem top_add (s : ℕ → EReal) (n b : ℕ) : top s (n + b) = max (top s n) (Finset.univ.sup fun r : Fin b => s (n + r)) := by
  apply le_antisymm
  · refine Finset.sup_le fun i hi => ?_
    have hi' := Finset.mem_range.mp hi
    by_cases hn : i < n
    · exact le_max_of_le_left (le_top s (Finset.mem_range.mpr hn))
    · refine le_max_of_le_right ?_
      have := Finset.le_sup (f := fun r : Fin b => s (n + r)) (Finset.mem_univ (⟨i - n, by omega⟩ : Fin b))
      rwa [show n + (⟨i - n, by omega⟩ : Fin b).val = i from by show n + (i - n) = i; omega] at this
  · refine max_le (Finset.sup_mono fun i hi => ?_) (Finset.sup_le fun r _ => ?_)
    · rw [Finset.mem_range] at hi ⊢; omega
    · exact le_top s (Finset.mem_range.mpr (by have := r.isLt; omega))

theorem top_le_add (s : ℕ → EReal) (n b : ℕ) : top s n ≤ top s (n + b) := by rw [top_add]; exact le_max_left _ _

/-- The weighted sum after `b` more scores: the old one rescaled, plus the new terms. -/
theorem wsum_add (s k : ℕ → EReal) (n b : ℕ) : wsum s k (n + b)
    = wsum s k n * Ideal.exp (top s n - top s (n + b)) + ∑ r : Fin b, Ideal.exp (s (n + r) - top s (n + b)) * k (n + r) := by
  unfold wsum
  rw [wsum_shift _ s k (fun i hi => le_top s hi) (top_le_add s n b), Finset.sum_range_add,
    Fin.sum_univ_eq_sum_range (fun i => Ideal.exp (s (n + i) - top s (n + b)) * k (n + i)) b]

/-- A sum of exponentials is the weighted sum with weights one. -/
theorem mass_eq (s : ℕ → EReal) (n : ℕ) : mass s n = wsum s (fun _ => 1) n := by simp [mass, wsum]

/-- The sum of exponentials after `b` more scores: the old one rescaled, plus the new terms. -/
theorem mass_add (s : ℕ → EReal) (n b : ℕ) : mass s (n + b)
    = mass s n * Ideal.exp (top s n - top s (n + b)) + ∑ r : Fin b, Ideal.exp (s (n + r) - top s (n + b)) := by
  rw [mass_eq, mass_eq, wsum_add]
  simp

/-- The maximum of the first `n` scores is the maximum over the `n`-element index type. -/
theorem top_eq_fin (s : ℕ → EReal) (n : ℕ) : top s n = Finset.univ.sup fun r : Fin n => s r := by
  have := top_add s 0 n
  rw [top_zero, Nat.zero_add] at this
  simpa using this

theorem mass_eq_fin (s : ℕ → EReal) (n : ℕ) : mass s n = ∑ r : Fin n, Ideal.exp (s r - top s n) :=
  (Fin.sum_univ_eq_sum_range (fun i => Ideal.exp (s i - top s n)) n).symm

theorem wsum_eq_fin (s k : ℕ → EReal) (n : ℕ) : wsum s k n = ∑ r : Fin n, Ideal.exp (s r - top s n) * k r :=
  (Fin.sum_univ_eq_sum_range (fun i => Ideal.exp (s i - top s n) * k i) n).symm

end Cert.Softmax

end
-- ==== Proof.Attention.lean ====
/- Single-query attention over a compressed cache, written on coordinates: the score of a cached token for a head, the
   value weight of a token in an output column, and the attention output. The arguments are indexed by batch entry,
   head, token and column; a token number is a natural number so that a run of blocks is a run of tokens. -/
module

public import proofs.«01_k».proof.Proof.Softmax
public import Idealize.ShloMosaic.Lib.Pointwise

@[expose] public section

noncomputable section

open Idealize.ShloMosaic

namespace Cert.Attention

/-- The word of `-∞` at `f32` denotes `⊥`. -/
theorem negInf : Ideal.ofBits .f32 0xFF800000#32 = ⊥ := by simp [Ideal.ofBits, Ideal.ieee]

/-- A maximum folded from `-∞` is the supremum. -/
theorem fold_max_eq_sup {n : ℕ} (f : Fin n → EReal) :
    Finset.fold max (Ideal.ofBits .f32 0xFF800000#32) f Finset.univ = Finset.univ.sup f := by
  rw [negInf]; rfl

/-- One score: the latent product times the token's scale, plus the rotary product, times the softmax scale. -/
def scoreOf (q : Fin 512 → EReal) (qr : Fin 64 → EReal) (code : Fin 512 → EReal) (scale : EReal) (kr : Fin 64 → EReal) : EReal :=
  ((∑ x, q x * code x) * scale + ∑ x, qr x * kr x) * Ideal.ofBits .f32 0x3D93CD3A#32

variable (q : (⟨3, ![4, 64, 512]⟩ : Shape).Idx → EReal) (qr : (⟨3, ![4, 64, 64]⟩ : Shape).Idx → EReal)
  (codes : (⟨3, ![4, 32768, 512]⟩ : Shape).Idx → EReal) (scales : (⟨2, ![4, 32768]⟩ : Shape).Idx → EReal)
  (kr : (⟨3, ![4, 32768, 64]⟩ : Shape).Idx → EReal)

/-- The score of cached token `t` for head `h` of batch entry `b` (`⊥` past the end of the cache). -/
def score (b : Fin 4) (h : Fin 64) (t : ℕ) : EReal :=
  if ht : t < 32768 then
    scoreOf (fun x => q (ix3 b h x)) (fun x => qr (ix3 b h x)) (fun x => codes (ix3 b ⟨t, ht⟩ x)) (scales (ix2 b ⟨t, ht⟩)) (fun x => kr (ix3 b ⟨t, ht⟩ x))
  else ⊥

/-- The value of token `t` in output column `k`: its code times its scale (`0` past the end of the cache). -/
def value (b : Fin 4) (k : Fin 512) (t : ℕ) : EReal :=
  if ht : t < 32768 then codes (ix3 b ⟨t, ht⟩ k) * scales (ix2 b ⟨t, ht⟩) else 0

/-- The attention output: the softmax-weighted sum of the values over the whole cache. -/
def output (b : Fin 4) (h : Fin 64) (k : Fin 512) : EReal :=
  Ideal.div (Softmax.wsum (score q qr codes scales kr b h) (value codes scales b k) 32768)
    (Softmax.mass (score q qr codes scales kr b h) 32768)

/-- The score of a token inside the cache. -/
theorem score_of_lt (b : Fin 4) (h : Fin 64) {t : ℕ} (ht : t < 32768) :
    score q qr codes scales kr b h t
      = scoreOf (fun x => q (ix3 b h x)) (fun x => qr (ix3 b h x)) (fun x => codes (ix3 b ⟨t, ht⟩ x)) (scales (ix2 b ⟨t, ht⟩)) (fun x => kr (ix3 b ⟨t, ht⟩ x)) :=
  dif_pos ht

/-- The value of a token inside the cache. -/
theorem value_of_lt (b : Fin 4) (k : Fin 512) {t : ℕ} (ht : t < 32768) :
    value codes scales b k t = codes (ix3 b ⟨t, ht⟩ k) * scales (ix2 b ⟨t, ht⟩) := dif_pos ht

end Cert.Attention

end
-- ==== Proof.PointMath.lean ====
/- One grid point of the kernel on the extended reals: the new running maximum, sum and weighted sum, and the output
   block, entry by entry. -/
module

public import proofs.«01_k».proof.Proof.Point
public import proofs.«01_k».proof.Proof.Attention

@[expose] public section

set_option maxRecDepth 16384

noncomputable section

open Idealize.ShloMosaic
open Cert.Attention (scoreOf)

namespace Cert.KernelIdeal.Point

open Cert.KernelIdeal Cert.KernelIdeal.Gen

variable (x0 : Vec Ideal S1x64x512 .bf16) (x1 : Vec Ideal S1x64x64 .bf16) (x2 : Vec Ideal S1x1024x512 .fp8e4m3)
  (x3 : Vec Ideal S1x1x1x1024 .f32) (x4 : Vec Ideal S1x1024x64 .bf16)

/-- The score of token `r` of the block for head `h`. -/
def sc (h : Fin 64) (r : Fin 1024) : EReal :=
  scoreOf (fun x => x0 (ix3 0 h x)) (fun x => x1 (ix3 0 h x)) (fun x => x2 (ix3 0 r x)) (x3 (ix4 0 0 0 r)) (fun x => x4 (ix3 0 r x))

theorem scores_apply (h : Fin 64) (r : Fin 1024) : k0_pay10 (F := Ideal) x0 x1 x2 x3 x4 (ix2 h r) = sc x0 x1 x2 x3 x4 h r := by
  unfold_payloads
  pointwise
  rfl

theorem max_apply (xs0 : Vec Ideal S64x1 .f32) (h : Fin 64) :
    k0_pay11 (F := Ideal) x0 x1 x2 x3 x4 xs0 (ix2 h 0) = max (xs0 (ix2 h 0)) (Finset.univ.sup (sc x0 x1 x2 x3 x4 h)) := by
  unfold k0_pay11
  pointwise
  rw [Attention.fold_max_eq_sup]
  simp only [scores_apply]

theorem alpha_apply (xs0 : Vec Ideal S64x1 .f32) (h : Fin 64) :
    k0_pay12 (F := Ideal) x0 x1 x2 x3 x4 xs0 (ix2 h 0)
      = Ideal.exp (xs0 (ix2 h 0) - k0_pay11 (F := Ideal) x0 x1 x2 x3 x4 xs0 (ix2 h 0)) := by
  unfold k0_pay12
  pointwise

theorem prob_apply (xs0 : Vec Ideal S64x1 .f32) (h : Fin 64) (r : Fin 1024) :
    k0_pay13 (F := Ideal) x0 x1 x2 x3 x4 xs0 (ix2 h r)
      = Ideal.exp (sc x0 x1 x2 x3 x4 h r - k0_pay11 (F := Ideal) x0 x1 x2 x3 x4 xs0 (ix2 h 0)) := by
  unfold k0_pay13
  pointwise
  rw [scores_apply]

/-- The new running maximum. -/
theorem newMax_apply (xs0 : Vec Ideal S64x1 .f32) (h : Fin 64) :
    newMax (F := Ideal) x0 x1 x2 x3 x4 xs0 (ix2 h 0) = max (xs0 (ix2 h 0)) (Finset.univ.sup (sc x0 x1 x2 x3 x4 h)) := by
  rw [← max_apply]
  unfold newMax k0_pay2
  pointwise

/-- The new running sum: the old one rescaled, plus the block's exponentials. -/
theorem newSum_apply (xs0 xs1 : Vec Ideal S64x1 .f32) (h : Fin 64) :
    newSum (F := Ideal) x0 x1 x2 x3 x4 xs0 xs1 (ix2 h 0)
      = xs1 (ix2 h 0) * Ideal.exp (xs0 (ix2 h 0) - newMax (F := Ideal) x0 x1 x2 x3 x4 xs0 (ix2 h 0))
        + ∑ r : Fin 1024, Ideal.exp (sc x0 x1 x2 x3 x4 h r - newMax (F := Ideal) x0 x1 x2 x3 x4 xs0 (ix2 h 0)) := by
  rw [newMax_apply, ← max_apply]
  unfold newSum k0_pay1
  pointwise
  simp only [alpha_apply, prob_apply]

/-- The new running weighted sum: the old one rescaled, plus the block's exponentials times the tokens' values. -/
theorem newAcc_apply (xs0 : Vec Ideal S64x1 .f32) (xs2 : Vec Ideal S64x512 .f32) (h : Fin 64) (k : Fin 512) :
    newAcc (F := Ideal) x0 x1 x2 x3 x4 xs0 xs2 (ix2 h k)
      = xs2 (ix2 h k) * Ideal.exp (xs0 (ix2 h 0) - newMax (F := Ideal) x0 x1 x2 x3 x4 xs0 (ix2 h 0))
        + ∑ r : Fin 1024, Ideal.exp (sc x0 x1 x2 x3 x4 h r - newMax (F := Ideal) x0 x1 x2 x3 x4 xs0 (ix2 h 0))
            * (x2 (ix3 0 r k) * x3 (ix4 0 0 0 r)) := by
  rw [newMax_apply, ← max_apply]
  unfold newAcc k0_pay3 k0_pay8 k0_pay9
  pointwise
  simp only [alpha_apply, prob_apply]

/-- The output block: the weighted sum over the sum of exponentials. -/
theorem quotient_apply (a : Vec Ideal S64x512 .f32) (l : Vec Ideal S64x1 .f32) (h : Fin 64) (k : Fin 512) :
    k0_pay4 (F := Ideal) a l (ix3 0 h k) = Ideal.div (a (ix2 h k)) (l (ix2 h 0)) := by
  unfold k0_pay4
  pointwise

/-- What the scratch arrays start from: maximum `⊥`, sums zero. -/
theorem start_max (h : Fin 64) : k0_pay5 (F := Ideal) (ix2 h 0) = ⊥ := by
  unfold k0_pay5
  pointwise
  exact Attention.negInf

theorem start_sum (h : Fin 64) : k0_pay6 (F := Ideal) (ix2 h 0) = 0 := by
  unfold k0_pay6
  pointwise

theorem start_acc (h : Fin 64) (k : Fin 512) : k0_pay7 (F := Ideal) (ix2 h k) = 0 := by
  unfold k0_pay7
  pointwise

end Cert.KernelIdeal.Point

end
-- ==== Proof.Blocks.lean ====
/- The blocks the kernel's windows hold at a grid point, entry by entry, as entries of the arrays: point `t` of the grid
   is batch entry `t / 32` and token block `t % 32`, so row `r` of a token block is token `1024 * (t % 32) + r`. -/
module

public import proofs.«01_k».proof.Proof.Gen.KernelIdeal.Frame
public import Idealize.ShloMosaic.Lib.Pipeline.Value
public import Idealize.ShloMosaic.Lib.StableHlo.Run
public import Idealize.ShloMosaic.Lib.Pointwise

@[expose] public section

set_option maxRecDepth 16384

noncomputable section

open Idealize.ShloMosaic Idealize.ShloMosaic.TcCoe Idealize.SL.Sem

namespace Cert.KernelIdeal.Blocks

open Cert.KernelIdeal Cert.KernelIdeal.Gen

variable {F : FTy → Type} [FloatOps F]
variable (m : (ℓ : Loc nD τ sig) → Buf (Elt F) ℓ)

theorem point_lt (t : Fin cfg0.N) : t.val < 128 := lt_of_lt_of_eq t.isLt (show cfg0.N = 128 from N_0)

/-- The batch entry of a grid point. -/
def entry (t : Fin cfg0.N) : Fin 4 := ⟨t.val / 32, by have := point_lt t; omega⟩

/-- The token block of a grid point. -/
def part (t : Fin cfg0.N) : Fin 32 := ⟨t.val % 32, by omega⟩

/-- The token at row `r` of a grid point's block. -/
def token (t : Fin cfg0.N) (r : Fin 1024) : Fin 32768 := ⟨1024 * (t.val % 32) + r.val, by omega⟩

/-- The windows' index maps, decided over the grid. -/
theorem index0 : ∀ t : Fin cfg0.N, win0_0.index t (0 : Fin 3) = t.val / 32 ∧ win0_0.index t (1 : Fin 3) = 0 ∧ win0_0.index t (2 : Fin 3) = 0 :=
  (by decide +kernel : ∀ t : Fin grid0.N, _)
theorem index1 : ∀ t : Fin cfg0.N, win0_1.index t (0 : Fin 3) = t.val / 32 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 32 ∧ win0_2.index t (1 : Fin 3) = t.val % 32 ∧ win0_2.index t (2 : Fin 3) = 0 :=
  (by decide +kernel : ∀ t : Fin grid0.N, _)
theorem index3 : ∀ t : Fin cfg0.N, win0_3.index t (0 : Fin 4) = t.val / 32 ∧ win0_3.index t (1 : Fin 4) = t.val % 32
    ∧ win0_3.index t (2 : Fin 4) = 0 ∧ win0_3.index t (3 : Fin 4) = 0 :=
  (by decide +kernel : ∀ t : Fin grid0.N, _)
theorem index4 : ∀ t : Fin cfg0.N, win0_4.index t (0 : Fin 3) = t.val / 32 ∧ win0_4.index t (1 : Fin 3) = t.val % 32 ∧ win0_4.index t (2 : Fin 3) = 0 :=
  (by decide +kernel : ∀ t : Fin grid0.N, _)

/-- Query block. -/
theorem query (c : Dev nD) (t : Fin cfg0.N) (h : Fin 64) (x : Fin 512) :
    (iblk m c 0 t : Vec F S1x64x512 .bf16) (ix3 0 h x) = V m c main_v0 (ix3 (entry t) h x) := by
  obtain ⟨e0, e1, e2⟩ := index0 t
  show V m c main_v0 (((cfg0.win 0).blk t).view.emb (ix3 0 h x)) = _
  congr 1
  funext a; apply Fin.ext
  match a with
  | ⟨0, _⟩ => show win0_0.index t (0 : Fin 3) * 1 + 1 * 0 = t.val / 32; rw [e0]; omega
  | ⟨1, _⟩ => show win0_0.index t (1 : Fin 3) * 64 + 1 * h.val = h.val; rw [e1]; omega
  | ⟨2, _⟩ => show win0_0.index t (2 : Fin 3) * 512 + 1 * x.val = x.val; rw [e2]; omega

/-- Rotary query block. -/
theorem rotaryQuery (c : Dev nD) (t : Fin cfg0.N) (h : Fin 64) (x : Fin 64) :
    (iblk m c 1 t : Vec F S1x64x64 .bf16) (ix3 0 h x) = V m c main_v1 (ix3 (entry t) h x) := by
  obtain ⟨e0, e1, e2⟩ := index1 t
  show V m c main_v1 (((cfg0.win 1).blk t).view.emb (ix3 0 h x)) = _
  congr 1
  funext a; apply Fin.ext
  match a with
  | ⟨0, _⟩ => show win0_1.index t (0 : Fin 3) * 1 + 1 * 0 = t.val / 32; rw [e0]; omega
  | ⟨1, _⟩ => show win0_1.index t (1 : Fin 3) * 64 + 1 * h.val = h.val; rw [e1]; omega
  | ⟨2, _⟩ => show win0_1.index t (2 : Fin 3) * 64 + 1 * x.val = x.val; rw [e2]; omega

/-- Block of cached codes. -/
theorem codes (c : Dev nD) (t : Fin cfg0.N) (r : Fin 1024) (x : Fin 512) :
    (iblk m c 2 t : Vec F S1x1024x512 .fp8e4m3) (ix3 0 r x) = m ((c : Thread nD τ).loc main_arg2) (ix3 (entry t) (token t r) x) := by
  obtain ⟨e0, e1, e2⟩ := index2 t
  rw [← V_main_arg2 m c]
  show V m c main_arg2 (((cfg0.win 2).blk t).view.emb (ix3 0 r x)) = _
  congr 1
  funext a; apply Fin.ext
  match a with
  | ⟨0, _⟩ => show win0_2.index t (0 : Fin 3) * 1 + 1 * 0 = t.val / 32; rw [e0]; omega
  | ⟨1, _⟩ => show win0_2.index t (1 : Fin 3) * 1024 + 1 * r.val = 1024 * (t.val % 32) + r.val; rw [e1]; omega
  | ⟨2, _⟩ => show win0_2.index t (2 : Fin 3) * 512 + 1 * x.val = x.val; rw [e2]; omega

/-- Block of rotary keys. -/
theorem rotaryKeys (c : Dev nD) (t : Fin cfg0.N) (r : Fin 1024) (x : Fin 64) :
    (iblk m c 4 t : Vec F S1x1024x64 .bf16) (ix3 0 r x) = m ((c : Thread nD τ).loc main_arg4) (ix3 (entry t) (token t r) x) := by
  obtain ⟨e0, e1, e2⟩ := index4 t
  rw [← V_main_arg4 m c]
  show V m c main_arg4 (((cfg0.win 4).blk t).view.emb (ix3 0 r x)) = _
  congr 1
  funext a; apply Fin.ext
  match a with
  | ⟨0, _⟩ => show win0_4.index t (0 : Fin 3) * 1 + 1 * 0 = t.val / 32; rw [e0]; omega
  | ⟨1, _⟩ => show win0_4.index t (1 : Fin 3) * 1024 + 1 * r.val = 1024 * (t.val % 32) + r.val; rw [e1]; omega
  | ⟨2, _⟩ => show win0_4.index t (2 : Fin 3) * 64 + 1 * x.val = x.val; rw [e2]; omega

/-- What the region finds in the reshaped query. -/
theorem V_query (c : Dev nD) : V m c main_v0 = shapeCast S4x64x512 (m ((c : Thread nD τ).loc main_arg0) : Vec F S4x1x32768 .bf16) shapeCasts_S4x1x32768_S4x64x512 := by
  show StableHlo.after hostOps0 _ (Proc.devRef .tc main_v0) = _
  simp only [hostOps0, StableHlo.after_cons, StableHlo.after_nil]
  rw [StableHlo.reshape_result_ne' _ _ _ _ _ (by decide), StableHlo.reshape_result_ne' _ _ _ _ _ (by decide), StableHlo.reshape_result']
  rfl

/-- What the region finds in the reshaped rotary query. -/
theorem V_rotary (c : Dev nD) : V m c main_v1 = shapeCast S4x64x64 (m ((c : Thread nD τ).loc main_arg1) : Vec F S4x1x64x64 .bf16) shapeCasts_S4x1x64x64_S4x64x64 := by
  show StableHlo.after hostOps0 _ (Proc.devRef .tc main_v1) = _
  simp only [hostOps0, StableHlo.after_cons, StableHlo.after_nil]
  rw [StableHlo.reshape_result_ne' _ _ _ _ _ (by decide), StableHlo.reshape_result', StableHlo.reshape_result_ne' _ _ _ _ _ (by decide)]
  rfl

/-- What the region finds in the scales, cut into blocks of 1024. -/
theorem V_scales (c : Dev nD) : V m c main_v2 = shapeCast S4x32x1x1024 (m ((c : Thread nD τ).loc main_arg3) : Vec F S4x32768 .f32) shapeCasts_S4x32768_S4x32x1x1024 := by
  show StableHlo.after hostOps0 _ (Proc.devRef .tc main_v2) = _
  simp only [hostOps0, StableHlo.after_cons, StableHlo.after_nil]
  rw [StableHlo.reshape_result', StableHlo.reshape_result_ne' _ _ _ _ _ (by decide), StableHlo.reshape_result_ne' _ _ _ _ _ (by decide)]
  rfl

/-- The scales cut into blocks of 1024: entry `r` of block `p` is the scale of token `1024 * p + r`. -/
theorem cut_apply (x : Vec F S4x32768 .f32) (b : Fin 4) (p : Fin 32) (r : Fin 1024) :
    shapeCast S4x32x1x1024 x shapeCasts_S4x32768_S4x32x1x1024 (ix4 b p 0 r) = x (ix2 b ⟨1024 * p.val + r.val, by omega⟩) := by
  refine shapeCast_apply _ _ _ _ ?_
  rw [Shape.rowMajor_val_two, Shape.rowMajor_val_four]
  show b.val * 32768 + (1024 * p.val + r.val) = ((b.val * 32 + p.val) * 1 + 0) * 1024 + r.val
  omega

/-- Block of scales. -/
theorem scales (c : Dev nD) (t : Fin cfg0.N) (r : Fin 1024) :
    (iblk m c 3 t : Vec F S1x1x1x1024 .f32) (ix4 0 0 0 r) = m ((c : Thread nD τ).loc main_arg3) (ix2 (entry t) (token t r)) := by
  obtain ⟨e0, e1, e2, e3⟩ := index3 t
  have h : (iblk m c 3 t : Vec F S1x1x1x1024 .f32) (ix4 0 0 0 r) = V m c main_v2 (ix4 (entry t) (part t) 0 r) := by
    show V m c main_v2 (((cfg0.win 3).blk t).view.emb (ix4 0 0 0 r)) = _
    congr 1
    funext a; apply Fin.ext
    match a with
    | ⟨0, _⟩ => show win0_3.index t (0 : Fin 4) * 1 + 1 * 0 = t.val / 32; rw [e0]; omega
    | ⟨1, _⟩ => show win0_3.index t (1 : Fin 4) * 1 + 1 * 0 = t.val % 32; rw [e1]; omega
    | ⟨2, _⟩ => show win0_3.index t (2 : Fin 4) * 1 + 1 * 0 = 0; rw [e2]
    | ⟨3, _⟩ => show win0_3.index t (3 : Fin 4) * 1024 + 1 * r.val = r.val; rw [e3]; omega
  rw [h, V_scales]
  exact cut_apply _ _ _ _

end Cert.KernelIdeal.Blocks

end
-- ==== Proof.Carried.lean ====
/- What the scratch arrays hold after every grid point, and what the result array ends holding: after token block `j` of
   a batch entry the three scratch arrays are the maximum, the sum of exponentials and the weighted sum over the first
   `1024 * (j + 1)` tokens, by induction on the point; so the output block written after the last token block is the
   attention output over the whole cache. -/
module

public import proofs.«01_k».proof.Proof.PointMath
public import proofs.«01_k».proof.Proof.Blocks
public import proofs.«01_k».proof.Proof.Gen.KernelIdeal.Value

@[expose] public section

set_option maxRecDepth 16384

noncomputable section

open Idealize.ShloMosaic Idealize.ShloMosaic.TcCoe Idealize.SL.Sem

namespace Cert.KernelIdeal.Carried

open Cert.KernelIdeal Cert.KernelIdeal.Gen Cert.KernelIdeal.Point Cert.KernelIdeal.Blocks

section AnyFloat

variable {F : FTy → Type} [FloatOps F]
variable (m : (ℓ : Loc nD τ sig) → Buf (Elt F) ℓ)

/-- The three scratch arrays after point `t`, from what they held before it. -/
def step (c : Dev nD) (t : Fin cfg0.N) (s : Vec F S64x1 .f32 × Vec F S64x1 .f32 × Vec F S64x512 .f32) :
    Vec F S64x1 .f32 × Vec F S64x1 .f32 × Vec F S64x512 .f32 :=
  (newMax (iblk m c 0 t) (iblk m c 1 t) (iblk m c 2 t) (iblk m c 3 t) (iblk m c 4 t) s.1,
   newSum (iblk m c 0 t) (iblk m c 1 t) (iblk m c 2 t) (iblk m c 3 t) (iblk m c 4 t) s.1 s.2.1,
   newAcc (iblk m c 0 t) (iblk m c 1 t) (iblk m c 2 t) (iblk m c 3 t) (iblk m c 4 t) s.1 s.2.2)

/-- What the scratch arrays start a batch entry from. -/
def start : Vec F S64x1 .f32 × Vec F S64x1 .f32 × Vec F S64x512 .f32 := (k0_pay5, k0_pay6, k0_pay7)

/-- The first point of a batch entry steps from the start. -/
theorem first (c : Dev nD) (t : Fin cfg0.N) (h0 : t.val % 32 = 0) :
    (outsAt0 m c t.val t.isLt).2 = step m c t start := by
  rw [outsAt0_A m c t h0 (by omega), sout_A_0, sout_A_1, sout_A_2]
  rfl

/-- Every other point steps from what the point before left. -/
theorem next (c : Dev nD) (n : ℕ) (hn : n + 1 < cfg0.N) (h0 : ¬(n + 1) % 32 = 0) :
    (outsAt0 m c (n + 1) hn).2 = step m c ⟨n + 1, hn⟩ (outsAt0 m c n (Nat.lt_of_succ_lt hn)).2 := by
  by_cases h1 : (n + 1) % 32 = 31
  · rw [outsAt0_C m c ⟨n + 1, hn⟩ h0 h1, sout_C_0, sout_C_1, sout_C_2]
    rfl
  · rw [outsAt0_B m c ⟨n + 1, hn⟩ h0 h1, sout_B_0, sout_B_1, sout_B_2]
    rfl

/-- The last point of a batch entry writes the weighted sum over the sum of exponentials. -/
theorem last (c : Dev nD) (n : ℕ) (hn : n + 1 < cfg0.N) (h1 : (n + 1) % 32 = 31) :
    (outsAt0 m c (n + 1) hn).1 = k0_pay4 (outsAt0 m c (n + 1) hn).2.2.2 (outsAt0 m c (n + 1) hn).2.2.1 := by
  rw [next m c n hn (by omega), outsAt0_C m c ⟨n + 1, hn⟩ (by dsimp only; omega) h1, out_C_5]
  rfl

end AnyFloat

variable (m : (ℓ : Loc nD τ sig) → Buf (Elt Ideal) ℓ)

/-- The scores of batch entry `b` and head `h`, by token. -/
abbrev scores (c : Dev nD) (b : Fin 4) (h : Fin 64) : ℕ → EReal :=
  Attention.score (V m c main_v0) (V m c main_v1) (m ((c : Thread nD τ).loc main_arg2)) (m ((c : Thread nD τ).loc main_arg3))
    (m ((c : Thread nD τ).loc main_arg4)) b h

/-- The values of batch entry `b` in column `k`, by token. -/
abbrev values (c : Dev nD) (b : Fin 4) (k : Fin 512) : ℕ → EReal :=
  Attention.value (m ((c : Thread nD τ).loc main_arg2)) (m ((c : Thread nD τ).loc main_arg3)) b k

/-- The scores a point computes are those of its block of tokens. -/
theorem sc_eq (c : Dev nD) (t : Fin cfg0.N) (h : Fin 64) (r : Fin 1024) :
    sc (iblk m c 0 t) (iblk m c 1 t) (iblk m c 2 t) (iblk m c 3 t) (iblk m c 4 t) h r
      = scores m c (entry t) h (1024 * (t.val % 32) + r.val) := by
  refine Eq.trans ?_ (Attention.score_of_lt _ _ _ _ _ _ _ (token t r).isLt).symm
  unfold sc
  simp only [query, rotaryQuery, codes, Blocks.scales, rotaryKeys]

/-- The values a point reads are those of its block of tokens. -/
theorem value_eq (c : Dev nD) (t : Fin cfg0.N) (k : Fin 512) (r : Fin 1024) (x2 : Vec Ideal S1x1024x512 .fp8e4m3)
    (x3 : Vec Ideal S1x1x1x1024 .f32) (h2 : x2 = iblk m c 2 t) (h3 : x3 = iblk m c 3 t) :
    x2 (ix3 0 r k) * x3 (ix4 0 0 0 r) = values m c (entry t) k (1024 * (t.val % 32) + r.val) := by
  rw [show x2 (ix3 0 r k) = _ from (congrFun h2 _).trans (codes m c t r k), show x3 (ix4 0 0 0 r) = _ from (congrFun h3 _).trans (Blocks.scales m c t r)]
  exact (Attention.value_of_lt _ _ _ _ (token t r).isLt).symm

/-- The scratch arrays hold the softmax state of the first `n` tokens of batch entry `b`. -/
def Holds (c : Dev nD) (b : Fin 4) (n : ℕ) (s : Vec Ideal S64x1 .f32 × Vec Ideal S64x1 .f32 × Vec Ideal S64x512 .f32) : Prop :=
  (∀ h : Fin 64, s.1 (ix2 h 0) = Softmax.top (scores m c b h) n)
  ∧ (∀ h : Fin 64, s.2.1 (ix2 h 0) = Softmax.mass (scores m c b h) n)
  ∧ (∀ (h : Fin 64) (k : Fin 512), s.2.2 (ix2 h k) = Softmax.wsum (scores m c b h) (values m c b k) n)

/-- At the start they hold the state of no tokens. -/
theorem holds_start (c : Dev nD) (b : Fin 4) : Holds m c b 0 start :=
  ⟨fun h => start_max h, fun h => start_sum h, fun h k => start_acc h k⟩

/-- A point adds its block of tokens. -/
theorem holds_step (c : Dev nD) (t : Fin cfg0.N) (s : Vec Ideal S64x1 .f32 × Vec Ideal S64x1 .f32 × Vec Ideal S64x512 .f32)
    (hs : Holds m c (entry t) (1024 * (t.val % 32)) s) : Holds m c (entry t) (1024 * (t.val % 32) + 1024) (step m c t s) := by
  obtain ⟨h1, h2, h3⟩ := hs
  have hm : ∀ h : Fin 64, (step m c t s).1 (ix2 h 0) = Softmax.top (scores m c (entry t) h) (1024 * (t.val % 32) + 1024) := fun h => by
    show newMax (F := Ideal) _ _ _ _ _ _ (ix2 h 0) = _
    rw [newMax_apply, h1, Softmax.top_add]
    congr 2
    exact funext fun r => sc_eq m c t h r
  refine ⟨hm, fun h => ?_, fun h k => ?_⟩
  · show newSum (F := Ideal) _ _ _ _ _ _ _ (ix2 h 0) = _
    rw [newSum_apply, show newMax (F := Ideal) _ _ _ _ _ _ (ix2 h 0) = _ from hm h, h1, h2, Softmax.mass_add]
    simp only [sc_eq]
  · show newAcc (F := Ideal) _ _ _ _ _ _ _ (ix2 h k) = _
    rw [newAcc_apply, show newMax (F := Ideal) _ _ _ _ _ _ (ix2 h 0) = _ from hm h, h1, h3, Softmax.wsum_add]
    simp only [sc_eq]
    congr 1
    exact Finset.sum_congr rfl fun r _ => congrArg _ (value_eq m c t k r _ _ rfl rfl)

/-- After point `n` the scratch arrays hold the state of the tokens of its batch entry up to and with its block. -/
theorem holds (c : Dev nD) : ∀ (n : ℕ) (hn : n < cfg0.N),
    Holds m c (entry ⟨n, hn⟩) (1024 * (n % 32) + 1024) (outsAt0 m c n hn).2
  | 0, hn => by
    rw [first m c ⟨0, hn⟩ rfl]
    exact holds_step m c ⟨0, hn⟩ start (holds_start m c _)
  | n + 1, hn => by
    by_cases h0 : (n + 1) % 32 = 0
    · have e := first m c ⟨n + 1, hn⟩ h0
      dsimp only at e
      rw [e]
      refine holds_step m c ⟨n + 1, hn⟩ start ?_
      dsimp only
      rw [h0]
      exact holds_start m c _
    · rw [next m c n hn h0]
      refine holds_step m c ⟨n + 1, hn⟩ _ ?_
      have ih := holds c n (Nat.lt_of_succ_lt hn)
      have he : entry (⟨n, Nat.lt_of_succ_lt hn⟩ : Fin cfg0.N) = entry ⟨n + 1, hn⟩ := Fin.ext (by show n / 32 = (n + 1) / 32; omega)
      have hk : 1024 * (n % 32) + 1024 = 1024 * ((n + 1) % 32) := by omega
      rw [he, hk] at ih
      exact ih

/-- The result: the attention output over the whole cache. -/
def result (c : Dev nD) : Buf (Elt Ideal) ((c : Thread nD τ).loc main_v3) := fun i =>
  Attention.output (V m c main_v0) (V m c main_v1) (m ((c : Thread nD τ).loc main_arg2)) (m ((c : Thread nD τ).loc main_arg3))
    (m ((c : Thread nD τ).loc main_arg4)) (i 0) (i 1) (i 2)

/-- The output block the last point of batch entry `b` writes. -/
theorem written (c : Dev nD) (b : Fin 4) (hn : 32 * b.val + 31 < cfg0.N) (h : Fin 64) (k : Fin 512) :
    (outsAt0 m c (32 * b.val + 31) hn).1 (ix3 0 h k)
      = Attention.output (V m c main_v0) (V m c main_v1) (m ((c : Thread nD τ).loc main_arg2)) (m ((c : Thread nD τ).loc main_arg3))
          (m ((c : Thread nD τ).loc main_arg4)) b h k := by
  obtain ⟨-, h2, h3⟩ := holds m c (32 * b.val + 31) hn
  have he : entry (⟨32 * b.val + 31, hn⟩ : Fin cfg0.N) = b := Fin.ext (by show (32 * b.val + 31) / 32 = b.val; omega)
  have hk : 1024 * ((32 * b.val + 31) % 32) + 1024 = 32768 := by omega
  rw [he, hk] at h2 h3
  rw [last m c (32 * b.val + 30) hn (by omega), quotient_apply, h2, h3]
  rfl

/-- The result array ends holding it. -/
theorem G5_eq (c : Dev nD) : Value.G5 m c = result m c := by
  funext i
  have h0 : (i 0).val < 4 := (i 0).isLt
  have h1 : (i 1).val < 64 := (i 1).isLt
  have h2 : (i 2).val < 512 := (i 2).isLt
  have hp : Value.pt5Of i = 32 * (i 0).val + 31 := by
    show 32 * (1 * ((i 0).val / 1 - 0) + 1 * ((i 1).val / 64 - 0) + 1 * ((i 2).val / 512 - 0)) + 31 = _
    omega
  have hN : 32 * (i 0).val + 31 < cfg0.N := by rw [show cfg0.N = 128 from N_0]; omega
  have hl : Value.loc5Of i = ix3 0 (i 1) (i 2) := by
    funext a; apply Fin.ext
    match a with
    | ⟨0, _⟩ => show (i 0).val % 1 = 0; omega
    | ⟨1, _⟩ => show (i 1).val % 64 = (i 1).val; omega
    | ⟨2, _⟩ => show (i 2).val % 512 = (i 2).val; omega
  unfold Value.G5
  rw [dif_pos (by rw [hp]; exact hN), hl, Value.fold0_congr m c _ _ (32 * (i 0).val + 31) (by omega) hp, ← Value.outsAt0_sweep m c _ hN]
  exact written m c (i 0) hN (i 1) (i 2)

end Cert.KernelIdeal.Carried

end
-- ==== Proof.Reference.lean ====
/- The reference program on the extended reals: its one grid point computes the attention output over the whole cache in
   one pass, and its result array holds it. -/
module

public import proofs.«01_k».proof.Proof.Attention
public import proofs.«01_k».proof.Proof.Gen.ReferenceIdeal.Value
public import Idealize.ShloMosaic.Lib.StableHlo.Run

@[expose] public section

set_option maxRecDepth 16384

noncomputable section

open Idealize.ShloMosaic Idealize.ShloMosaic.TcCoe Idealize.SL.Sem

namespace Cert.ReferenceIdeal.Result

open Cert.ReferenceIdeal Cert.ReferenceIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-- The payload of the one store is the attention output. -/
theorem pay_apply (v0 : Vec Ideal S4x32768 .f32) (v1 : Vec Ideal S4x32768x512 .fp8e4m3) (v3 : Vec Ideal S4x64x512 .bf16)
    (v6 : Vec Ideal S4x64x64 .bf16) (v8 : Vec Ideal S4x32768x64 .bf16) (b : Fin 4) (h : Fin 64) (k : Fin 512) :
    k0_pay1 (F := Ideal) v0 v1 v3 v6 v8 (ix3 b h k) = Attention.output v3 v6 v1 v0 v8 b h k := by
  unfold_payloads
  pointwise
  unfold Attention.output
  rw [Softmax.wsum_eq_fin, Softmax.mass_eq_fin, Softmax.top_eq_fin]
  simp only [Attention.fold_max_eq_sup, Attention.score_of_lt _ _ _ _ _ _ _ (Fin.isLt _), Attention.value_of_lt _ _ _ _ (Fin.isLt _), Attention.scoreOf, Fin.eta]

variable {F : FTy → Type} [FloatOps F]

/-- What the body leaves in the output window: the payload of its one store, of the whole arrays it loaded. -/
theorem out_eq (x0 : Vec F S4x64x512 .bf16) (x1 : Vec F S4x64x64 .bf16) (x2 : Vec F S4x32768x512 .fp8e4m3) (x3 : Vec F S4x32768 .f32) (x4 : Vec F S4x32768x64 .bf16) :
    out0_5 x0 x1 x2 x3 x4 = k0_pay1 x3 x2 x0 x1 x4 := by
  unfold out0_5
  rw [View.canon_unit_zero (S := S4x64x512) hz3]
  simp only [View.ld_unit_zero (S := S4x32768) hz2, View.ld_unit_zero (S := S4x64x512) hz3,
    View.ld_unit_zero (S := S4x64x64) hz3, View.ld_unit_zero (S := S4x32768x512) hz3, View.ld_unit_zero (S := S4x32768x64) hz3]

variable (m : (ℓ : Loc nD τ sig) → Buf (Elt F) ℓ)

/-- What the region finds in the reshaped query. -/
theorem V_query (c : Dev nD) : V m c main_v0 = shapeCast S4x64x512 (m ((c : Thread nD τ).loc main_arg0) : Vec F S4x1x32768 .bf16) shapeCasts_S4x1x32768_S4x64x512 := by
  show StableHlo.after hostOps0 _ (Proc.devRef .tc main_v0) = _
  simp only [hostOps0, StableHlo.after_cons, StableHlo.after_nil]
  rw [StableHlo.reshape_result_ne' _ _ _ _ _ (by decide), StableHlo.reshape_result']
  rfl

/-- What the region finds in the reshaped rotary query. -/
theorem V_rotary (c : Dev nD) : V m c main_v1 = shapeCast S4x64x64 (m ((c : Thread nD τ).loc main_arg1) : Vec F S4x1x64x64 .bf16) shapeCasts_S4x1x64x64_S4x64x64 := by
  show StableHlo.after hostOps0 _ (Proc.devRef .tc main_v1) = _
  simp only [hostOps0, StableHlo.after_cons, StableHlo.after_nil]
  rw [StableHlo.reshape_result', StableHlo.reshape_result_ne' _ _ _ _ _ (by decide)]
  rfl

/-- Window 0 is the whole of the query. -/
theorem whole0 (c : Dev nD) : (iblk m c 0 t0_0 : Vec F S4x64x512 .bf16) = V m c main_v0 := by
  have hz : (fun a => win0_0.index t0_0 a * main_v0.ty.shape.size a) = fun _ => 0 := funext fun a => by fin_cases a <;> decide
  exact Memref.read_access_unit_zero (Elt F) main_v0 hz (fun a => by rw [congrFun hz a]; simp) (V m c main_v0)

/-- Window 1 is the whole of the rotary query. -/
theorem whole1 (c : Dev nD) : (iblk m c 1 t0_0 : Vec F S4x64x64 .bf16) = V m c main_v1 := by
  have hz : (fun a => win0_1.index t0_0 a * main_v1.ty.shape.size a) = fun _ => 0 := funext fun a => by fin_cases a <;> decide
  exact Memref.read_access_unit_zero (Elt F) main_v1 hz (fun a => by rw [congrFun hz a]; simp) (V m c main_v1)

/-- Window 2 is the whole of the cached codes. -/
theorem whole2 (c : Dev nD) : (iblk m c 2 t0_0 : Vec F S4x32768x512 .fp8e4m3) = V m c main_arg2 := by
  have hz : (fun a => win0_2.index t0_0 a * main_arg2.ty.shape.size a) = fun _ => 0 := funext fun a => by fin_cases a <;> decide
  exact Memref.read_access_unit_zero (Elt F) main_arg2 hz (fun a => by rw [congrFun hz a]; simp) (V m c main_arg2)

/-- Window 3 is the whole of the scales. -/
theorem whole3 (c : Dev nD) : (iblk m c 3 t0_0 : Vec F S4x32768 .f32) = V m c main_arg3 := by
  have hz : (fun a => win0_3.index t0_0 a * main_arg3.ty.shape.size a) = fun _ => 0 := funext fun a => by fin_cases a <;> decide
  exact Memref.read_access_unit_zero (Elt F) main_arg3 hz (fun a => by rw [congrFun hz a]; simp) (V m c main_arg3)

/-- Window 4 is the whole of the rotary keys. -/
theorem whole4 (c : Dev nD) : (iblk m c 4 t0_0 : Vec F S4x32768x64 .bf16) = V m c main_arg4 := by
  have hz : (fun a => win0_4.index t0_0 a * main_arg4.ty.shape.size a) = fun _ => 0 := funext fun a => by fin_cases a <;> decide
  exact Memref.read_access_unit_zero (Elt F) main_arg4 hz (fun a => by rw [congrFun hz a]; simp) (V m c main_arg4)

/-- What the one point writes: the payload of the five whole arrays. -/
def wrote (c : Dev nD) : Buf (Elt F) ((c : Thread nD τ).loc main_v2) :=
  (k0_pay1 (V m c main_arg3) (V m c main_arg2) (V m c main_v0) (V m c main_v1) (V m c main_arg4) : Vec F S4x64x512 .bf16)

/-- The write-back of the one point is the whole of it. -/
theorem flushed_eq (c : Dev nD) (t : Fin cfg0.N) (_ : (cfg0.win 5).flush t = true) :
    (dats m 0 c).flushed 5 t = ((cfg0.win 5).blk t).view.read (Elt F) (wrote m c) := by
  obtain rfl : t = t0_0 := fin_N0 t
  rw [Value.flushed5, out_eq, whole0, whole1, whole2, whole3, whole4]
  have hz : (fun a => win0_5.index t0_0 a * main_v2.ty.shape.size a) = fun _ => 0 := funext fun a => by fin_cases a <;> decide
  exact (Memref.read_access_unit_zero (Elt F) main_v2 hz (fun a => by rw [congrFun hz a]; simp) (wrote m c)).symm

/-- So the result array ends holding it. -/
theorem final (c : Dev nD) : (dats m 0 c).arrAt 5 cfg0.N = wrote m c :=
  (dats m 0 c).arrAt_eq_of_cover 5 (wrote m c) (flushed_eq m c) fun i =>
    ⟨t0_0, by decide, by
      show i ∈ ((View.whole main_v2).slice (win0_5.rect t0_0)).set
      rw [View.set_slice_whole, Rect.mem_set_unit]
      intro a
      have h0 : (i 0 : Nat) < 4 := (i 0).isLt
      have h1 : (i 1 : Nat) < 64 := (i 1).isLt
      have h2 : (i 2 : Nat) < 512 := (i 2).isLt
      match a with
      | ⟨0, _⟩ => show win0_5.index t0_0 0 * win0_5.size 0 ≤ (i 0 : Nat) ∧ (i 0 : Nat) < win0_5.index t0_0 0 * win0_5.size 0 + win0_5.xsize (grid0.coords t0_0) 0
                  rw [show win0_5.index t0_0 0 * win0_5.size 0 = 0 from by decide +kernel, show win0_5.xsize (grid0.coords t0_0) 0 = 4 from by decide +kernel]; omega
      | ⟨1, _⟩ => show win0_5.index t0_0 1 * win0_5.size 1 ≤ (i 1 : Nat) ∧ (i 1 : Nat) < win0_5.index t0_0 1 * win0_5.size 1 + win0_5.xsize (grid0.coords t0_0) 1
                  rw [show win0_5.index t0_0 1 * win0_5.size 1 = 0 from by decide +kernel, show win0_5.xsize (grid0.coords t0_0) 1 = 64 from by decide +kernel]; omega
      | ⟨2, _⟩ => show win0_5.index t0_0 2 * win0_5.size 2 ≤ (i 2 : Nat) ∧ (i 2 : Nat) < win0_5.index t0_0 2 * win0_5.size 2 + win0_5.xsize (grid0.coords t0_0) 2
                  rw [show win0_5.index t0_0 2 * win0_5.size 2 = 0 from by decide +kernel, show win0_5.xsize (grid0.coords t0_0) 2 = 512 from by decide +kernel]; omega⟩

/-- The result at every index: the attention output over the whole cache. -/
theorem final_apply (m : (ℓ : Loc nD τ sig) → Buf (Elt Ideal) ℓ) (c : Dev nD) (b : Fin 4) (h : Fin 64) (k : Fin 512) :
    ((dats m 0 c).arrAt 5 cfg0.N : Vec Ideal S4x64x512 .bf16) (ix3 b h k)
      = Attention.output (V m c main_v0) (V m c main_v1) (m ((c : Thread nD τ).loc main_arg2)) (m ((c : Thread nD τ).loc main_arg3))
          (m ((c : Thread nD τ).loc main_arg4)) b h k := by
  rw [← V_main_arg2 m c, ← V_main_arg3 m c, ← V_main_arg4 m c, final]
  exact pay_apply _ _ _ _ _ b h k

end Cert.ReferenceIdeal.Result

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Carried
public import proofs.«01_k».proof.Proof.Reference
public import Idealize.ShloMosaic.Adequacy
public import Idealize.ShloMosaic.Init

@[expose] public section

noncomputable section

namespace Cert.Proof

open Idealize.ShloMosaic Idealize.SL.Sem Idealize.ShloMosaic.TcCoe

/-- Run from equal arguments, the reference's result array is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Gen.dats m' 0 c).arrAt 5 Cert.ReferenceIdeal.cfg0.N = Cert.KernelIdeal.Carried.result m c := by
  funext i
  obtain ⟨b, h, k, rfl⟩ : ∃ (b : Fin 4) (h : Fin 64) (k : Fin 512), i = ix3 b h k :=
    ⟨i 0, i 1, i 2, funext fun a => by match a with | ⟨0, _⟩ => rfl | ⟨1, _⟩ => rfl | ⟨2, _⟩ => rfl⟩
  refine (Cert.ReferenceIdeal.Result.final_apply m' c b h k).trans ?_
  rw [Cert.ReferenceIdeal.Result.V_query, Cert.ReferenceIdeal.Result.V_rotary, h0, h1, h2, h3, h4]
  unfold Cert.KernelIdeal.Carried.result
  rw [Cert.KernelIdeal.Blocks.V_query, Cert.KernelIdeal.Blocks.V_rotary]
  rfl

/-- Every claim of the certificate. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  fun m ρ m' ρ' _ hag => ⟨fun c => Cert.KernelIdeal.Carried.result m c,
    (θ_run _ _ _).mono (fun _ h c => ⟨(h c).1.trans (Cert.KernelIdeal.Carried.G5_eq m c), (h c).2⟩) (Cert.KernelIdeal.Value.run m ρ),
    (θ_run _ _ _).mono (fun _ h c => ⟨(h c).1.trans
      (results_eq m m' c (hag c).1 (hag c).2.1 (hag c).2.2.1 (hag c).2.2.2.1 (hag c).2.2.2.2), (h c).2⟩)
      (Cert.ReferenceIdeal.Value.run_blocks m' ρ')⟩⟩

end Cert.Proof

end
